-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S100000 32) (main_arg2 : FVec F S128x128 .f32) (main_arg3 : FVec F S128 .f32) (main_arg4 : FVec F S128x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100x1000x1 : Shape := ⟨3, ![100, 1000, 1]⟩
abbrev S1x128 : Shape := ⟨2, ![1, 128]⟩
abbrev S512x128 : Shape := ⟨2, ![512, 128]⟩
abbrev S1000x128 : Shape := ⟨2, ![1000, 128]⟩
abbrev S1x1000x1 : Shape := ⟨3, ![1, 1000, 1]⟩
abbrev S1x512 : Shape := ⟨2, ![1, 512]⟩
abbrev S128x512 : Shape := ⟨2, ![128, 512]⟩
abbrev S1000 : Shape := ⟨1, ![1000]⟩
abbrev S1000x1 : Shape := ⟨2, ![1000, 1]⟩
abbrev S1000x512 : Shape := ⟨2, ![1000, 512]⟩
abbrev S512 : Shape := ⟨1, ![512]⟩
abbrev S512x512 : Shape := ⟨2, ![512, 512]⟩

abbrev nBuf : Space → Nat
  | .hbm => 10
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100x1000x1, .i32⟩
  | .hbm, ⟨7, _⟩ => ⟨S1x128, .f32⟩
  | .hbm, ⟨8, _⟩ => ⟨S1x128, .f32⟩
  | .hbm, ⟨9, _⟩ => ⟨S512x128, .f32⟩
  | .local _ .vmem, ⟨0, _⟩ => ⟨S1000x128, .f32⟩
  | .local _ .vmem, ⟨1, _⟩ => ⟨S1000x128, .f32⟩
  | .local _ .vmem, ⟨2, _⟩ => ⟨S1x1000x1, .i32⟩
  | .local _ .vmem, ⟨3, _⟩ => ⟨S1x1000x1, .i32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S128x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v68 : BitVec 1 := Scalar.cmpi .eq arg0 c99_i32
  let v69 : BitVec 32 := Scalar.extui v68
  let c0_i32_35 : BitVec 32 := 0#32
  let v70 : BitVec 1 := Scalar.cmpi .ne v69 c0_i32_35
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S_ : Shape := ⟨0, ![]⟩
abbrev S100000x1 : Shape := ⟨2, ![100000, 1]⟩
abbrev S1x1 : Shape := ⟨2, ![1, 1]⟩
abbrev S512 : Shape := ⟨1, ![512]⟩
abbrev S1x512 : Shape := ⟨2, ![1, 512]⟩
abbrev S100000x512 : Shape := ⟨2, ![100000, 512]⟩
abbrev S512x128 : Shape := ⟨2, ![512, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S_, .f32⟩
  | .hbm, ⟨11, _⟩ => ⟨S100000x128, .f32⟩
  | .hbm, ⟨12, _⟩ => ⟨S100000x128, .f32⟩
  | .hbm, ⟨13, _⟩ => ⟨S100000x1, .f32⟩
  | .hbm, ⟨14, _⟩ => ⟨S1x1, .f32⟩
  | .hbm, ⟨15, _⟩ => ⟨S100000x1, .f32⟩
  | .hbm, ⟨16, _⟩ => ⟨S100000x1, .f32⟩
  | .hbm, ⟨17, _⟩ => ⟨S100000, .f32⟩
  | .hbm, ⟨18, _⟩ => ⟨S100000x1, .i32⟩
  | .hbm, ⟨19, _⟩ => ⟨S512, .i32⟩
  | .hbm, ⟨20, _⟩ => ⟨S1x512, .i32⟩
  | .hbm, ⟨21, _⟩ => ⟨S100000x512, .i32⟩
  | .hbm, ⟨22, _⟩ => ⟨S100000x512, .i32⟩
  | .hbm, ⟨23, _⟩ => ⟨S100000x512, .i1⟩
  | .hbm, ⟨24, _⟩ => ⟨S100000x1, .f32⟩
  | .hbm, ⟨25, _⟩ => ⟨S_, .f32⟩
  | .hbm, ⟨26, _⟩ => ⟨S_, .f32⟩
  | .hbm, ⟨27, _⟩ => ⟨S100000x512, .f32⟩
  | .hbm, ⟨28, _⟩ => ⟨S100000x512, .f32⟩
  | .hbm, ⟨29, _⟩ => ⟨S100000x512, .f32⟩
  | .hbm, ⟨30, _⟩ => ⟨S_, .f32⟩
  | .hbm, ⟨31, _⟩ => ⟨S512, .f32⟩
  | .hbm, ⟨32, _⟩ => ⟨S_, .i32⟩
  | .hbm, ⟨33, _⟩ => ⟨S100000, .i32⟩
  | .hbm, ⟨34, _⟩ => ⟨S100000, .i1⟩
  | .hbm, ⟨35, _⟩ => ⟨S_, .i32⟩
  | .hbm, ⟨36, _⟩ => ⟨S100000, .i32⟩
  | .hbm, ⟨37, _⟩ => ⟨S100000, .i32⟩
  | .hbm, ⟨38, _⟩ => ⟨S100000, .i32⟩
  | .hbm, ⟨39, _⟩ => ⟨S100000x1, .i32⟩
  | .hbm, ⟨40, _⟩ => ⟨S100000, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S512, .f32⟩
  | .hbm, ⟨45, _⟩ => ⟨S100000x1, .i32⟩
  | .hbm, ⟨46, _⟩ => ⟨S512, .f32⟩
  | .hbm, ⟨47, _⟩ => ⟨S_, .i32⟩
  | .hbm, ⟨48, _⟩ => ⟨S100000, .i32⟩
  | .hbm, ⟨49, _⟩ => ⟨S100000, .i1⟩
  | .hbm, ⟨50, _⟩ => ⟨S_, .i32⟩
  | .hbm, ⟨51, _⟩ => ⟨S100000, .i32⟩
  | .hbm, ⟨52, _⟩ => ⟨S100000, .i32⟩
  | .hbm, ⟨53, _⟩ => ⟨S100000, .i32⟩
  | .hbm, ⟨54, _⟩ => ⟨S100000x1, .i32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S512x128, .f32⟩
  | .hbm, ⟨62, _⟩ => ⟨S100000x1, .i32⟩
  | .hbm, ⟨63, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_c_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.Online.lean ====
module

public import Idealize.ShloMosaic.PureOps.Ideal
public import Mathlib.Algebra.BigOperators.Fin
public import Mathlib.Analysis.SpecialFunctions.Exp
/-! The running softmax of one segment, over the reals and the extended reals.

A segment is a predicate `p` on the nodes `0, 1, 2, …`, a node `n` has the score `s n` and a weight `w n`. `mx` is the
greatest score of the segment's nodes below `a` (minus infinity where there is none) and `sm` the sum of their weights,
each times the exponential of its score less that maximum. The theorems say how the two change when a block of nodes is
added, which is the step the kernel takes. -/

@[expose] public section

noncomputable section

open Idealize.ShloMosaic

namespace Cert.Online

variable (s : ℕ → ℝ) (p : ℕ → Prop) [DecidablePred p] (w : ℕ → ℝ)

/-- The greatest score of the segment's nodes below `a`; minus infinity where the segment has none there. -/
def mx (a : ℕ) : EReal := (Finset.range a).sup fun n => if p n then (s n : EReal) else ⊥

/-- The weights of the segment's nodes below `a`, each times the exponential of its score less the maximum, summed. -/
def sm (a : ℕ) : ℝ := ∑ n ∈ Finset.range a, if p n then w n * Real.exp (s n - (mx s p a).toReal) else 0

/-- No nodes, no maximum. -/
theorem mx_zero : mx s p 0 = ⊥ := by simp [mx]

/-- No nodes, an empty sum. -/
theorem sm_zero : sm s p w 0 = 0 := by simp [sm]

/-- The maximum is never plus infinity. -/
theorem mx_ne_top (a : ℕ) : mx s p a ≠ ⊤ := by
  refine ne_of_lt ((Finset.sup_lt_iff (by simp)).2 fun n _ => ?_)
  split
  · exact EReal.coe_lt_top _
  · exact bot_lt_top

/-- Where a node below `a` is in the segment the maximum is not minus infinity. -/
theorem mx_ne_bot {a n : ℕ} (hn : n < a) (hp : p n) : mx s p a ≠ ⊥ := by
  intro h
  have h1 : (if p n then (s n : EReal) else ⊥) ≤ mx s p a :=
    Finset.le_sup (f := fun n => if p n then (s n : EReal) else ⊥) (Finset.mem_range.2 hn)
  rw [h, if_pos hp] at h1
  exact absurd (le_bot_iff.1 h1) (EReal.coe_ne_bot _)

/-- Where the maximum is minus infinity no node below `a` is in the segment. -/
theorem not_of_mx_bot {a n : ℕ} (h : mx s p a = ⊥) (hn : n < a) : ¬p n := fun hp => mx_ne_bot s p hn hp h

/-- The maximum over the nodes below `a + k` is the greater of the one below `a` and the one over the next `k`. -/
theorem mx_add (a k : ℕ) :
    mx s p (a + k) = max (mx s p a) (Finset.univ.sup fun r : Fin k => if p (a + r) then (s (a + r) : EReal) else ⊥) := by
  apply le_antisymm
  · refine Finset.sup_le fun n hn => ?_
    rcases lt_or_ge n a with h | h
    · exact le_max_of_le_left (Finset.le_sup (f := fun n => if p n then (s n : EReal) else ⊥) (Finset.mem_range.2 h))
    · refine le_max_of_le_right ?_
      have hk : n - a < k := by have := Finset.mem_range.1 hn; omega
      have := Finset.le_sup (f := fun r : Fin k => if p (a + r) then (s (a + r) : EReal) else ⊥) (Finset.mem_univ ⟨n - a, hk⟩)
      simpa only [Nat.add_sub_cancel' h] using this
  · refine max_le (Finset.sup_mono (Finset.range_mono (Nat.le_add_right _ _))) (Finset.sup_le fun r _ => ?_)
    exact Finset.le_sup (f := fun n => if p n then (s n : EReal) else ⊥) (Finset.mem_range.2 (by omega))

/-- The exponential of a difference of reals, as the extended reals take it. -/
theorem exp_sub_coe (a b : ℝ) : Ideal.exp ((a : EReal) - (b : EReal)) = ((Real.exp (a - b) : ℝ) : EReal) := by
  rw [← EReal.coe_sub]; rfl

/-- What a node of the segment below `a` contributes, in the extended reals, is its real contribution. -/
theorem term_coe {a n : ℕ} (hn : n < a) :
    (w n : EReal) * (if p n then Ideal.exp ((s n : EReal) - mx s p a) else 0)
      = ((if p n then w n * Real.exp (s n - (mx s p a).toReal) else 0 : ℝ) : EReal) := by
  split
  · rename_i hp
    have h := EReal.coe_toReal (mx_ne_top s p a) (mx_ne_bot s p hn hp)
    conv_lhs => rw [← h]
    rw [exp_sub_coe, ← EReal.coe_mul]
  · simp

/-- A finite sum of reals in the extended reals is the real sum. -/
theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- One block of the running sum: the sum so far, rescaled to the new maximum (nothing where the old one is minus
    infinity), plus the block's nodes. -/
theorem sm_step (a k : ℕ) :
    (if mx s p a = ⊥ then 0 else ((sm s p w a : ℝ) : EReal) * Ideal.exp (mx s p a - mx s p (a + k)))
      + ∑ r : Fin k, (w (a + r) : EReal) * (if p (a + r) then Ideal.exp ((s (a + r) : EReal) - mx s p (a + k)) else 0)
      = ((sm s p w (a + k) : ℝ) : EReal) := by
  have hsum : ∑ r : Fin k, (w (a + r) : EReal) * (if p (a + r) then Ideal.exp ((s (a + r) : EReal) - mx s p (a + k)) else 0)
      = ((∑ r ∈ Finset.range k, (if p (a + r) then w (a + r) * Real.exp (s (a + r) - (mx s p (a + k)).toReal) else 0) : ℝ) : EReal) := by
    rw [coe_sum, Finset.sum_range]
    exact Finset.sum_congr rfl fun r _ => term_coe s p w (by omega)
  have hold : (if mx s p a = ⊥ then 0 else ((sm s p w a : ℝ) : EReal) * Ideal.exp (mx s p a - mx s p (a + k)))
      = ((∑ n ∈ Finset.range a, (if p n then w n * Real.exp (s n - (mx s p (a + k)).toReal) else 0) : ℝ) : EReal) := by
    split
    · rename_i h
      rw [Finset.sum_eq_zero]
      · rfl
      · intro n hn
        rw [if_neg (not_of_mx_bot s p h (Finset.mem_range.1 hn))]
    · rename_i h
      have h1 := EReal.coe_toReal (mx_ne_top s p a) h
      have h2 : mx s p (a + k) ≠ ⊥ := by
        intro hb
        rw [mx_add] at hb
        exact h (le_bot_iff.1 (hb ▸ le_max_left _ _))
      have h3 := EReal.coe_toReal (mx_ne_top s p (a + k)) h2
      conv_lhs => rw [← h1, ← h3]
      rw [exp_sub_coe, ← EReal.coe_mul]
      congr 1
      unfold sm
      rw [Finset.sum_mul]
      refine Finset.sum_congr rfl fun n _ => ?_
      split
      · rw [mul_assoc, ← Real.exp_add]
        congr 2
        ring
      · simp
  rw [hsum, hold, ← EReal.coe_add]
  congr 1
  unfold sm
  rw [Finset.sum_range_add]

/-- The sum of ones is not negative. -/
theorem sm_one_nonneg (a : ℕ) : 0 ≤ sm s p (fun _ => 1) a := by
  refine Finset.sum_nonneg fun n _ => ?_
  split
  · simpa using (Real.exp_pos _).le
  · exact le_rfl

/-- The sum of ones is positive where a node below `a` is in the segment. -/
theorem sm_one_pos {a n : ℕ} (hn : n < a) (hp : p n) : 0 < sm s p (fun _ => 1) a := by
  refine Finset.sum_pos' (fun n _ => ?_) ⟨n, Finset.mem_range.2 hn, ?_⟩
  · split
    · simpa using (Real.exp_pos _).le
    · exact le_rfl
  · rw [if_pos hp]; simpa using Real.exp_pos _

/-- The segment's weighted average over the nodes below `a`: the sum of the weights over the sum of ones (zero, as a
    quotient by zero is, where the segment is empty). -/
def avg (a : ℕ) : ℝ := sm s p w a / sm s p (fun _ => 1) a

/-- The kernel's last step: the reciprocal of a positive sum of ones, zero otherwise, times the weighted sum. -/
theorem avg_eq (a : ℕ) :
    (if 0 < ((sm s p (fun _ => 1) a : ℝ) : EReal) then Ideal.div 1 ((sm s p (fun _ => 1) a : ℝ) : EReal) else 0) * ((sm s p w a : ℝ) : EReal)
      = ((avg s p w a : ℝ) : EReal) := by
  rcases (sm_one_nonneg s p a).eq_or_lt with h | h
  · rw [if_neg (by rw [← h]; simp), zero_mul]
    unfold avg
    rw [← h, div_zero]; rfl
  · rw [if_pos (EReal.coe_pos.2 h), avg]
    have : Ideal.div 1 ((sm s p (fun _ => 1) a : ℝ) : EReal) = ((sm s p (fun _ => 1) a)⁻¹ : ℝ) := by
      unfold Ideal.div
      rw [if_neg (by simpa using h.ne'), one_mul, EReal.coe_inv]
    rw [this, ← EReal.coe_mul]
    congr 1
    rw [div_eq_mul_inv, mul_comm]

/-! ## The same written the reference's way: one pass over all nodes, every score shifted by a bias -/

/-- The maximum over the nodes below `a`, taken over the bounded indices. -/
theorem mx_fin (a : ℕ) : mx s p a = Finset.univ.sup fun r : Fin a => if p r then (s r : EReal) else ⊥ := by
  have h := mx_add s p 0 a
  rw [mx_zero, max_eq_right bot_le] at h
  simpa only [zero_add] using h

/-- The sum of the segment's exponentials, in the extended reals. -/
theorem den_fin (a : ℕ) :
    ∑ r : Fin a, (if p r then Ideal.exp ((s r : EReal) - mx s p a) else 0) = ((sm s p (fun _ => 1) a : ℝ) : EReal) := by
  unfold sm
  rw [coe_sum, Finset.sum_range]
  refine Finset.sum_congr rfl fun r _ => ?_
  rw [← term_coe s p (fun _ => 1) r.isLt, EReal.coe_one, one_mul]

/-- A real over a positive real. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- The segment's weights, each times its own quotient of exponential by sum, add up to the weighted average. -/
theorem avg_fin (a : ℕ) :
    ∑ r : Fin a, (if p r then (w r : EReal) * Ideal.div (Ideal.exp ((s r : EReal) - mx s p a)) ((sm s p (fun _ => 1) a : ℝ) : EReal) else 0)
      = ((avg s p w a : ℝ) : EReal) := by
  unfold avg
  conv_rhs => rw [sm, Finset.sum_div, coe_sum, Finset.sum_range]
  refine Finset.sum_congr rfl fun r _ => ?_
  split
  · rename_i hp
    have h := EReal.coe_toReal (mx_ne_top s p a) (mx_ne_bot s p r.isLt hp)
    conv_lhs => rw [← h]
    rw [exp_sub_coe, div_coe _ _ (sm_one_pos s p r.isLt hp).ne', ← EReal.coe_mul, mul_div_assoc]
  · simp

/-- Shifting every score shifts the maximum. -/
theorem mx_shift (c : ℝ) (a : ℕ) : mx (fun n => s n + c) p a = mx s p a + (c : EReal) := by
  unfold mx
  rw [Finset.comp_sup_eq_sup_comp_of_is_total (fun y : EReal => y + (c : EReal)) (fun x y h => add_le_add_left h _) (EReal.bot_add _)]
  refine Finset.sup_congr rfl fun n _ => ?_
  simp only [Function.comp]
  split
  · exact EReal.coe_add _ _
  · exact (EReal.bot_add _).symm

/-- Shifting every score changes no sum. -/
theorem sm_shift (c : ℝ) (a : ℕ) : sm (fun n => s n + c) p w a = sm s p w a := by
  unfold sm
  refine Finset.sum_congr rfl fun n hn => ?_
  split
  · rename_i hp
    have h := EReal.coe_toReal (mx_ne_top s p a) (mx_ne_bot s p (Finset.mem_range.1 hn) hp)
    rw [mx_shift, ← h, ← EReal.coe_add, EReal.toReal_coe, EReal.toReal_coe]
    congr 2
    ring
  · rfl

/-- Shifting every score changes no average. -/
theorem avg_shift (c : ℝ) (a : ℕ) : avg (fun n => s n + c) p w a = avg s p w a := by
  unfold avg
  rw [sm_shift, sm_shift]

end Cert.Online

end
-- ==== Proof.Spec.lean ====
module

public import proofs.«01_k».proof.Proof.Online
public import Idealize.ShloMosaic.Lib.Pointwise
/-! What both programs compute, over the reals: each segment's softmax-weighted average of its nodes' rows. -/

@[expose] public section

noncomputable section

open Idealize.ShloMosaic

namespace Cert.Spec

/-- The real numbers the five float inputs hold, the arrays read at a natural number in place of a node: for inputs that
    are finite everywhere. -/
structure Reals (A0 : FVec Ideal ⟨2, ![100000, 128]⟩ .f32) (A2 : FVec Ideal ⟨2, ![128, 128]⟩ .f32) (A3 : FVec Ideal ⟨1, ![128]⟩ .f32)
    (A4 : FVec Ideal ⟨2, ![128, 1]⟩ .f32) (A5 : FVec Ideal ⟨1, ![1]⟩ .f32) where
  x : ℕ → Fin 128 → ℝ
  W : Fin 128 → Fin 128 → ℝ
  b1 : Fin 128 → ℝ
  w2 : Fin 128 → ℝ
  b2 : ℝ
  hx : ∀ (n : ℕ) (h : n < 100000) (j : Fin 128), A0 (ix2 ⟨n, h⟩ j) = (x n j : EReal)
  hW : ∀ l k : Fin 128, A2 (ix2 l k) = (W l k : EReal)
  hb1 : ∀ k : Fin 128, A3 (ix1 k) = (b1 k : EReal)
  hw2 : ∀ k : Fin 128, A4 (ix2 k 0) = (w2 k : EReal)
  hb2 : A5 (ix1 0) = (b2 : EReal)

/-- The segment id of node `n`. -/
def ids (A1 : IVec ⟨1, ![100000]⟩ 32) (n : ℕ) : BitVec 32 := if h : n < 100000 then A1 (ix1 ⟨n, h⟩) else 0

/-- Below the number of nodes it is the array's entry. -/
theorem ids_eq (A1 : IVec ⟨1, ![100000]⟩ 32) (n : ℕ) (h : n < 100000) : A1 (ix1 ⟨n, h⟩) = ids A1 n := by rw [ids, dif_pos h]

/-- Node `n` is in segment `g`: its id is the word of `g`. -/
def inSeg (A1 : IVec ⟨1, ![100000]⟩ 32) (g : Fin 512) (n : ℕ) : Prop := ids A1 n = BitVec.ofNat 32 g

/-- Whether a node is in a segment is decided by comparing the words. -/
instance (A1 : IVec ⟨1, ![100000]⟩ 32) (g : Fin 512) : DecidablePred (inSeg A1 g) := fun n =>
  inferInstanceAs (Decidable (ids A1 n = BitVec.ofNat 32 g))

variable {A0 : FVec Ideal ⟨2, ![100000, 128]⟩ .f32} {A2 : FVec Ideal ⟨2, ![128, 128]⟩ .f32} {A3 : FVec Ideal ⟨1, ![128]⟩ .f32}
    {A4 : FVec Ideal ⟨2, ![128, 1]⟩ .f32} {A5 : FVec Ideal ⟨1, ![1]⟩ .f32}

/-- The score of node `n` without the last bias. -/
def score (R : Reals A0 A2 A3 A4 A5) (n : ℕ) : ℝ :=
  ∑ k : Fin 128, max ((∑ l : Fin 128, R.x n l * R.W l k) + R.b1 k) 0 * R.w2 k

/-- The score as the extended reals compute it. -/
theorem score_coe (R : Reals A0 A2 A3 A4 A5) (n : ℕ) :
    ∑ k : Fin 128, max ((∑ l : Fin 128, (R.x n l : EReal) * (R.W l k : EReal)) + (R.b1 k : EReal)) 0 * (R.w2 k : EReal)
      = ((score R n : ℝ) : EReal) := by
  unfold score
  rw [Online.coe_sum]
  refine Finset.sum_congr rfl fun k _ => ?_
  simp only [← EReal.coe_mul]
  rw [← Online.coe_sum, ← EReal.coe_add, ← EReal.coe_zero, ← EReal.coe_strictMono.monotone.map_max, ← EReal.coe_mul]

/-- The result at segment `g`, column `j`. -/
def out (R : Reals A0 A2 A3 A4 A5) (A1 : IVec ⟨1, ![100000]⟩ 32) (g : Fin 512) (j : Fin 128) : ℝ :=
  Online.avg (score R) (inSeg A1 g) (fun n => R.x n j) 100000

end Cert.Spec

end
-- ==== Proof.Finite.lean ====
module

public import proofs.«01_k».proof.Proof.Gen.Pre_all_finite
public import proofs.«01_k».proof.Proof.Spec
public import Idealize.ShloMosaic.Lib.ReduceAll
/-! The precondition read back: float inputs that are finite everywhere hold real numbers. -/

@[expose] public section

noncomputable section

open Idealize.ShloMosaic

namespace Cert.Pre_all_finite

open Cert.Pre_all_finite.Gen Cert.Spec

/-- The constant the precondition compares with is plus infinity. -/
theorem ofBits_pos_inf : Ideal.ofBits .f32 0x7F800000#32 = (⊤ : EReal) := by
  unfold Ideal.ofBits Ideal.ieee; simp

/-- A number whose absolute value is below plus infinity is the real number it reads as. -/
theorem eq_toReal (x : EReal) (h : max x (-x) < ⊤) : x = ((x.toReal : ℝ) : EReal) := by
  refine (EReal.coe_toReal (fun e => ?_) (fun e => ?_)).symm <;> subst e <;> simp at h

/-- Where the comparison of the absolute value with plus infinity holds, the number is real. -/
theorem eq_toReal_of_cmp (x : EReal) (h : Ideal.cmp .olt (max x (-x)) (Ideal.ofBits .f32 0x7F800000#32) = 1#1) :
    x = ((x.toReal : ℝ) : EReal) := by
  refine eq_toReal x ?_
  by_contra hn
  rw [ofBits_pos_inf, Ideal.cmp, decide_eq_false hn] at h
  exact absurd h (by decide)

/-- An array of no axes has one index. -/
instance : Subsingleton S_.Idx := ⟨fun a b => funext fun k => k.elim0⟩

variable {A0 : FVec Ideal S100000x128 .f32} {A1 : IVec S100000 32} {A2 : FVec Ideal S128x128 .f32} {A3 : FVec Ideal S128 .f32}
  {A4 : FVec Ideal S128x1 .f32} {A5 : FVec Ideal S1 .f32}

/-- Under the precondition every element of the five float inputs is a real number. -/
theorem real_of_fn (h : fn (F := Ideal) A0 A1 A2 A3 A4 A5 = fun _ => 1#1) :
    (∀ i, A0 i = (((A0 i : EReal).toReal : ℝ) : EReal)) ∧ (∀ i, A2 i = (((A2 i : EReal).toReal : ℝ) : EReal))
      ∧ (∀ i, A3 i = (((A3 i : EReal).toReal : ℝ) : EReal)) ∧ (∀ i, A4 i = (((A4 i : EReal).toReal : ℝ) : EReal))
      ∧ ∀ i, A5 i = (((A5 i : EReal).toReal : ℝ) : EReal) := by
  have e := congrFun h (fun k => k.elim0)
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨fun i => eq_toReal_of_cmp _ (Host.reduce_andi_all _ _ _ _ _ e0 i),
    fun i => eq_toReal_of_cmp _ (Host.reduce_andi_all _ _ _ _ _ e2 i),
    fun i => eq_toReal_of_cmp _ (Host.reduce_andi_all _ _ _ _ _ e3 i),
    fun i => eq_toReal_of_cmp _ (Host.reduce_andi_all _ _ _ _ _ e4 i),
    fun i => eq_toReal_of_cmp _ (Host.reduce_andi_all _ _ _ _ _ e5 i)⟩

/-- The real numbers the float inputs hold, under the precondition. -/
def reals (h : fn (F := Ideal) A0 A1 A2 A3 A4 A5 = fun _ => 1#1) : Reals A0 A2 A3 A4 A5 where
  x n j := if hn : n < 100000 then (A0 (ix2 ⟨n, hn⟩ j) : EReal).toReal else 0
  W l k := (A2 (ix2 l k) : EReal).toReal
  b1 k := (A3 (ix1 k) : EReal).toReal
  w2 k := (A4 (ix2 k 0) : EReal).toReal
  b2 := (A5 (ix1 0) : EReal).toReal
  hx n hn j := by rw [dif_pos hn]; exact (real_of_fn h).1 _
  hW _ _ := (real_of_fn h).2.1 _
  hb1 _ := (real_of_fn h).2.2.1 _
  hw2 _ := (real_of_fn h).2.2.2.1 _
  hb2 := (real_of_fn h).2.2.2.2 _

end Cert.Pre_all_finite

end
-- ==== Proof.Step.lean ====
module

public import proofs.«01_k».proof.Proof.Gen.KernelIdeal.Value
public import Idealize.ShloMosaic.Lib.Pipeline.ValueKit
public import Idealize.ShloMosaic.Lib.Pipeline.ReadBack
/-! One grid point of the kernel: what it leaves in the three scratch arrays and, at the last point, in the output. -/

@[expose] public section

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.KernelIdeal.Value

variable (m : (ℓ : Loc nD τ sig) → Buf (Elt Ideal) ℓ)

/-- The running maxima after a block, from the block's inputs and the maxima before it. -/
def newM (x : FVec Ideal S1000x128 .f32) (b : IVec S1x1000x1 32) (W : FVec Ideal S128x128 .f32) (b1 w2 : FVec Ideal S1x128 .f32)
    (M : FVec Ideal S1x512 .f32) : FVec Ideal S1x512 .f32 :=
  k0_pay5 (k0_pay12 x W b1 w2 b M)

/-- The running denominators after a block. -/
def newD (x : FVec Ideal S1000x128 .f32) (b : IVec S1x1000x1 32) (W : FVec Ideal S128x128 .f32) (b1 w2 : FVec Ideal S1x128 .f32)
    (M D : FVec Ideal S1x512 .f32) : FVec Ideal S1x512 .f32 :=
  k0_pay3 (k0_pay10 x W b1 w2) (k0_pay11 (F := Ideal) b) (k0_pay12 x W b1 w2 b M) (k0_pay13 (F := Ideal) M) (k0_pay14 x W b1 w2 b M)
    (FloatOps.ofBits .f32 0x00000000#32) D

/-- The running weighted sums after a block. -/
def newA (x : FVec Ideal S1000x128 .f32) (b : IVec S1x1000x1 32) (W : FVec Ideal S128x128 .f32) (b1 w2 : FVec Ideal S1x128 .f32)
    (M : FVec Ideal S1x512 .f32) (A : FVec Ideal S128x512 .f32) : FVec Ideal S128x512 .f32 :=
  k0_pay4 x (k0_pay10 x W b1 w2) (k0_pay11 (F := Ideal) b) (k0_pay12 x W b1 w2 b M) (k0_pay13 (F := Ideal) M) (k0_pay14 x W b1 w2 b M)
    (FloatOps.ofBits .f32 0x00000000#32) A

/-- At a point neither first nor last the scratch becomes the new maxima, denominators and sums of what it held. -/
theorem stB (c : Dev nD) (n : ℕ) (hb : n < cfg0.N) (acc) (h0 : ¬n % 100 = 0) (h1 : ¬n % 100 = 99) :
    (stAt0 m c n hb acc).2.1 = newM (iblk m c 0 ⟨n, hb⟩) (iblk m c 1 ⟨n, hb⟩) (iblk m c 2 ⟨n, hb⟩) (iblk m c 3 ⟨n, hb⟩) (iblk m c 4 ⟨n, hb⟩) acc.2.1
    ∧ (stAt0 m c n hb acc).2.2.1 = newD (iblk m c 0 ⟨n, hb⟩) (iblk m c 1 ⟨n, hb⟩) (iblk m c 2 ⟨n, hb⟩) (iblk m c 3 ⟨n, hb⟩) (iblk m c 4 ⟨n, hb⟩) acc.2.1 acc.2.2.1
    ∧ (stAt0 m c n hb acc).2.2.2 = newA (iblk m c 0 ⟨n, hb⟩) (iblk m c 1 ⟨n, hb⟩) (iblk m c 2 ⟨n, hb⟩) (iblk m c 3 ⟨n, hb⟩) (iblk m c 4 ⟨n, hb⟩) acc.2.1 acc.2.2.2 := by
  rw [stAt0_B m c ⟨n, hb⟩ acc h0 h1]
  dsimp only
  refine ⟨?_, ?_, ?_⟩
  · frame_out; (try simp only [read_unread_whole])
    rfl
  · frame_out; (try simp only [read_unread_whole])
    rfl
  · frame_out; (try simp only [read_unread_whole])
    rfl

/-- At the first point it becomes those of the reset values. -/
theorem stA (c : Dev nD) (n : ℕ) (hb : n < cfg0.N) (acc) (h0 : n % 100 = 0) (h1 : ¬n % 100 = 99) :
    (stAt0 m c n hb acc).2.1 = newM (iblk m c 0 ⟨n, hb⟩) (iblk m c 1 ⟨n, hb⟩) (iblk m c 2 ⟨n, hb⟩) (iblk m c 3 ⟨n, hb⟩) (iblk m c 4 ⟨n, hb⟩) k0_pay7
    ∧ (stAt0 m c n hb acc).2.2.1 = newD (iblk m c 0 ⟨n, hb⟩) (iblk m c 1 ⟨n, hb⟩) (iblk m c 2 ⟨n, hb⟩) (iblk m c 3 ⟨n, hb⟩) (iblk m c 4 ⟨n, hb⟩) k0_pay7 k0_pay8
    ∧ (stAt0 m c n hb acc).2.2.2 = newA (iblk m c 0 ⟨n, hb⟩) (iblk m c 1 ⟨n, hb⟩) (iblk m c 2 ⟨n, hb⟩) (iblk m c 3 ⟨n, hb⟩) (iblk m c 4 ⟨n, hb⟩) k0_pay7 k0_pay9 := by
  rw [stAt0_A m c ⟨n, hb⟩ acc h0 h1]
  dsimp only
  refine ⟨?_, ?_, ?_⟩
  · frame_out; (try simp only [read_unread_whole])
    rfl
  · frame_out; (try simp only [read_unread_whole])
    rfl
  · frame_out; (try simp only [read_unread_whole])
    rfl

/-- At the last point the output is the closing expression of the new denominators and sums. -/
theorem stC (c : Dev nD) (n : ℕ) (hb : n < cfg0.N) (acc) (h0 : ¬n % 100 = 0) (h1 : n % 100 = 99) :
    (stAt0 m c n hb acc).1 = k0_pay6 (F := Ideal)
      (newD (iblk m c 0 ⟨n, hb⟩) (iblk m c 1 ⟨n, hb⟩) (iblk m c 2 ⟨n, hb⟩) (iblk m c 3 ⟨n, hb⟩) (iblk m c 4 ⟨n, hb⟩) acc.2.1 acc.2.2.1)
      (newA (iblk m c 0 ⟨n, hb⟩) (iblk m c 1 ⟨n, hb⟩) (iblk m c 2 ⟨n, hb⟩) (iblk m c 3 ⟨n, hb⟩) (iblk m c 4 ⟨n, hb⟩) acc.2.1 acc.2.2.2) := by
  rw [stAt0_C m c ⟨n, hb⟩ acc h0 h1]
  dsimp only
  frame_out; (try simp only [read_unread_whole])
  rfl

end Cert.KernelIdeal.Step

end
-- ==== Proof.Block.lean ====
module

public import proofs.«01_k».proof.Proof.Step
public import proofs.«01_k».proof.Proof.Online
public import Idealize.ShloMosaic.Lib.Pointwise
/-! The same arrays read at an index. -/

@[expose] public section

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.KernelIdeal.Value

variable (x : FVec Ideal S1000x128 .f32) (b : IVec S1x1000x1 32) (W : FVec Ideal S128x128 .f32) (b1 w2 : FVec Ideal S1x128 .f32)
    (M D : FVec Ideal S1x512 .f32) (A : FVec Ideal S128x512 .f32)

/-- The constant the kernel writes for minus infinity is minus infinity. -/
theorem ofBits_neg_inf : Ideal.ofBits .f32 0xFF800000#32 = (⊥ : EReal) := by
  unfold Ideal.ofBits Ideal.ieee
  simp

/-- A maximum folded from minus infinity is the supremum. -/
theorem fold_max_bot {ι : Type*} [Fintype ι] (f : ι → EReal) : Finset.fold max ⊥ f Finset.univ = Finset.univ.sup f := rfl

/-- The score of the block's row `r`. -/
theorem score_at (r : Fin 1000) : k0_pay10 (F := Ideal) x W b1 w2 (ix2 r 0)
    = ∑ k : Fin 128, max ((∑ l : Fin 128, x (ix2 r l) * W (ix2 l k)) + b1 (ix2 0 k)) 0 * w2 (ix2 0 k) := by
  pointwise [k0_pay10]

/-- The mask at row `r`, segment `g`: the row's id is the word of `g`. -/
theorem mask_at (r : Fin 1000) (g : Fin 512) : k0_pay11 (F := Ideal) b (ix2 r g) = BitVec.ofBool (decide (b (ix3 0 r 0) = BitVec.ofNat 32 g)) := by
  pointwise [k0_pay11]
  rw [WordCmp.cmpi_eq_eq]

/-- The new maximum of segment `g` before it is stored. -/
theorem pay12_at (g : Fin 512) : k0_pay12 (F := Ideal) x W b1 w2 b M (ix2 0 g)
    = max (M (ix2 0 g)) (Finset.univ.sup fun r : Fin 1000 =>
        if b (ix3 0 r 0) = BitVec.ofNat 32 g then k0_pay10 (F := Ideal) x W b1 w2 (ix2 r 0) else ⊥) := by
  pointwise [k0_pay12]
  simp only [ofBits_neg_inf, fold_max_bot, mask_at, Scalar.select_ofBool, decide_eq_true_eq]

/-- The new maximum of segment `g`. -/
theorem newM_at (g : Fin 512) : newM x b W b1 w2 M (ix2 0 g)
    = max (M (ix2 0 g)) (Finset.univ.sup fun r : Fin 1000 =>
        if b (ix3 0 r 0) = BitVec.ofNat 32 g then k0_pay10 (F := Ideal) x W b1 w2 (ix2 r 0) else ⊥) := by
  rw [← pay12_at]
  pointwise [newM, k0_pay5]

/-- Two segments with the same 32-bit word are the same. -/
theorem ofNat_inj {g h : Fin 512} (e : BitVec.ofNat 32 g = BitVec.ofNat 32 h) : g = h := by
  have := congrArg BitVec.toNat e
  simp only [BitVec.toNat_ofNat] at this
  apply Fin.ext
  omega

/-- The exponentials of the block: at row `r`, segment `g`, that of the row's score less the segment's new maximum where the
    row is in the segment, zero elsewhere. -/
theorem P_at (s : FVec Ideal S1000x1 .f32) (r : Fin 1000) (g : Fin 512) : k0_pay2 (F := Ideal) s (k0_pay11 (F := Ideal) b) M (ix2 r g)
    = if b (ix3 0 r 0) = BitVec.ofNat 32 g then Ideal.exp (s (ix2 r 0) - M (ix2 0 g)) else 0 := by
  pointwise [k0_pay2]
  simp only [ofBits_neg_inf, fold_max_bot, mask_at, Scalar.select_ofBool, decide_eq_true_eq]
  split
  · rename_i h
    have : (Finset.univ.sup fun k : Fin 512 => if b (ix3 0 r 0) = BitVec.ofNat 32 k then M (ix2 0 k) else ⊥) = M (ix2 0 g) := by
      apply le_antisymm
      · refine Finset.sup_le fun k _ => ?_
        split
        · rename_i h'
          rw [ofNat_inj (h.symm.trans h')]
        · exact bot_le
      · have := Finset.le_sup (f := fun k : Fin 512 => if b (ix3 0 r 0) = BitVec.ofNat 32 k then M (ix2 0 k) else ⊥) (Finset.mem_univ g)
        simpa only [if_pos h] using this
    rw [this]
  · rfl

/-- The new denominator of segment `g`. -/
theorem newD_at (g : Fin 512) : newD x b W b1 w2 M D (ix2 0 g)
    = (if M (ix2 0 g) = ⊥ then 0 else D (ix2 0 g) * Ideal.exp (M (ix2 0 g) - newM x b W b1 w2 M (ix2 0 g)))
      + ∑ r : Fin 1000, if b (ix3 0 r 0) = BitVec.ofNat 32 g
          then Ideal.exp (k0_pay10 (F := Ideal) x W b1 w2 (ix2 r 0) - newM x b W b1 w2 M (ix2 0 g)) else 0 := by
  rw [newM_at, ← pay12_at]
  pointwise [newD, k0_pay3, k0_pay1, k0_pay14, k0_pay13]
  simp only [ofBits_neg_inf, Scalar.select_ofBool, decide_eq_true_eq, P_at, mul_ite, mul_zero]

/-- The new weighted sum of segment `g`, column `j`. -/
theorem newA_at (j : Fin 128) (g : Fin 512) : newA x b W b1 w2 M A (ix2 j g)
    = (if M (ix2 0 g) = ⊥ then 0 else A (ix2 j g) * Ideal.exp (M (ix2 0 g) - newM x b W b1 w2 M (ix2 0 g)))
      + ∑ r : Fin 1000, x (ix2 r j) * if b (ix3 0 r 0) = BitVec.ofNat 32 g
          then Ideal.exp (k0_pay10 (F := Ideal) x W b1 w2 (ix2 r 0) - newM x b W b1 w2 M (ix2 0 g)) else 0 := by
  rw [newM_at, ← pay12_at]
  pointwise [newA, k0_pay4, k0_pay1, k0_pay14, k0_pay13]
  simp only [ofBits_neg_inf, Scalar.select_ofBool, decide_eq_true_eq, P_at, mul_ite, mul_zero]

/-- The output at segment `g`, column `j`: the reciprocal of a positive denominator, zero otherwise, times the weighted sum. -/
theorem out_at (j : Fin 128) (g : Fin 512) : k0_pay6 (F := Ideal) D A (ix2 g j)
    = (if 0 < D (ix2 0 g) then Ideal.div 1 (D (ix2 0 g)) else 0) * A (ix2 j g) := by
  pointwise [k0_pay6]
  rw [Finset.sum_eq_single g]
  · rw [WordCmp.cmpi_eq_eq, decide_eq_true rfl]; rfl
  · intro k _ hk
    rw [WordCmp.cmpi_eq_eq, decide_eq_false fun e => hk (ofNat_inj e).symm]; rfl
  · exact fun h => absurd (Finset.mem_univ g) h

/-- The reset maxima are minus infinity. -/
theorem pay7_at (g : Fin 512) : k0_pay7 (F := Ideal) (ix2 0 g) = (⊥ : EReal) := by
  pointwise [k0_pay7]
  exact ofBits_neg_inf

/-- The reset denominators are zero. -/
theorem pay8_at (g : Fin 512) : k0_pay8 (F := Ideal) (ix2 0 g) = (0 : EReal) := by
  pointwise [k0_pay8]

/-- The reset weighted sums are zero. -/
theorem pay9_at (j : Fin 128) (g : Fin 512) : k0_pay9 (F := Ideal) (ix2 j g) = (0 : EReal) := by
  pointwise [k0_pay9]

end Cert.KernelIdeal.Step

end
-- ==== Proof.Input.lean ====
module

public import proofs.«01_k».proof.Proof.Block
public import Idealize.ShloMosaic.Lib.Claim
/-! The blocks the kernel reads at a grid point, as parts of the arguments. -/

@[expose] public section

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.KernelIdeal.Value

variable (m : (ℓ : Loc nD τ sig) → Buf (Elt Ideal) ℓ)

/-- Every window's block index at a grid point. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ t.val < 100 :=
  (by decide +kernel : ∀ t : Fin grid0.N, _)

/-- The block of `x` at point `t`: row `r` is row `1000 t + r` of the array. -/
theorem blk_x (c : Dev nD) (t : Fin cfg0.N) (r : Fin 1000) (j : Fin 128) (h : 1000 * t.val + r.val < 100000) :
    iblk m c 0 t (ix2 r j) = m ((c : Thread nD τ).loc main_arg0) (ix2 ⟨1000 * t.val + r.val, h⟩ j) := by
  blk_point [iblk, V, idx t]

/-- The block of `batch` at point `t`: row `r` is entry `1000 t + r`. -/
theorem blk_b (c : Dev nD) (t : Fin cfg0.N) (r : Fin 1000) (h : 1000 * t.val + r.val < 100000) :
    iblk m c 1 t (ix3 0 r 0) = m ((c : Thread nD τ).loc main_arg1) (ix1 ⟨1000 * t.val + r.val, h⟩) := by
  blk_point [iblk, V, idx t]

/-- The block of `W1` is the whole array at every point. -/
theorem blk_W (c : Dev nD) (t : Fin cfg0.N) (l k : Fin 128) :
    iblk m c 2 t (ix2 l k) = m ((c : Thread nD τ).loc main_arg2) (ix2 l k) := by
  blk_point [iblk, V, idx t]

/-- So is that of `b1`, laid out as a row. -/
theorem blk_b1 (c : Dev nD) (t : Fin cfg0.N) (k : Fin 128) :
    iblk m c 3 t (ix2 0 k) = m ((c : Thread nD τ).loc main_arg3) (ix1 k) := by
  blk_point [iblk, V, idx t]

/-- So is that of `W2`, laid out as a row. -/
theorem blk_w2 (c : Dev nD) (t : Fin cfg0.N) (k : Fin 128) :
    iblk m c 4 t (ix2 0 k) = m ((c : Thread nD τ).loc main_arg4) (ix2 k 0) := by
  blk_point [iblk, V, idx t]

end Cert.KernelIdeal.Step

end
-- ==== Proof.State.lean ====
module

public import proofs.«01_k».proof.Proof.Input
public import proofs.«01_k».proof.Proof.Spec
/-! The scratch arrays after every grid point hold the running softmax of the nodes so far; so the kernel's result. -/

@[expose] public section

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.KernelIdeal.Value Cert.Spec

variable (m : (ℓ : Loc nD τ sig) → Buf (Elt Ideal) ℓ) (c : Dev nD)
  (R : Reals (m ((c : Thread nD τ).loc main_arg0)) (m ((c : Thread nD τ).loc main_arg2)) (m ((c : Thread nD τ).loc main_arg3))
    (m ((c : Thread nD τ).loc main_arg4)) (m ((c : Thread nD τ).loc main_arg5)))

/-- The score the block at point `t` gives its row `r` is node `1000 t + r`'s. -/
theorem blk_score (t : Fin cfg0.N) (r : Fin 1000) :
    k0_pay10 (F := Ideal) (iblk m c 0 t) (iblk m c 2 t) (iblk m c 3 t) (iblk m c 4 t) (ix2 r 0)
      = ((score R (1000 * t.val + r.val) : ℝ) : EReal) := by
  have ht := (idx t).2.2.2.2.2
  have h : 1000 * t.val + r.val < 100000 := by omega
  rw [score_at, ← score_coe R]
  refine Finset.sum_congr rfl fun k _ => ?_
  rw [blk_b1, blk_w2, R.hb1, R.hw2]
  congr 3
  refine Finset.sum_congr rfl fun l _ => ?_
  rw [blk_x m c t r l h, blk_W, R.hx, R.hW]

/-- The id the block at point `t` gives its row `r` is node `1000 t + r`'s. -/
theorem blk_ids (t : Fin cfg0.N) (r : Fin 1000) :
    iblk m c 1 t (ix3 0 r 0) = ids (m ((c : Thread nD τ).loc main_arg1)) (1000 * t.val + r.val) := by
  have ht := (idx t).2.2.2.2.2
  have h : 1000 * t.val + r.val < 100000 := by omega
  rw [blk_b m c t r h]
  exact ids_eq _ _ h

/-- The maxima, denominators and weighted sums of the nodes below `a`: what the kernel carries. -/
def Holds (a : ℕ) (M D : FVec Ideal S1x512 .f32) (A : FVec Ideal S128x512 .f32) : Prop :=
  ∀ g : Fin 512, M (ix2 0 g) = Online.mx (score R) (inSeg (m ((c : Thread nD τ).loc main_arg1)) g) a
    ∧ D (ix2 0 g) = ((Online.sm (score R) (inSeg (m ((c : Thread nD τ).loc main_arg1)) g) (fun _ => 1) a : ℝ) : EReal)
    ∧ ∀ j : Fin 128, A (ix2 j g)
        = ((Online.sm (score R) (inSeg (m ((c : Thread nD τ).loc main_arg1)) g) (fun n => R.x n j) a : ℝ) : EReal)

/-- The reset values are the state before any node. -/
theorem holds_zero : Holds m c R 0 k0_pay7 k0_pay8 k0_pay9 := fun g =>
  ⟨by rw [pay7_at, Online.mx_zero], by rw [pay8_at, Online.sm_zero]; rfl, fun j => by rw [pay9_at, Online.sm_zero]; rfl⟩

/-- A block's step takes the state of the nodes below the block to that of the nodes below the next. -/
theorem holds_step (t : Fin cfg0.N) (M D : FVec Ideal S1x512 .f32) (A : FVec Ideal S128x512 .f32) (h : Holds m c R (1000 * t.val) M D A) :
    Holds m c R (1000 * t.val + 1000)
      (newM (iblk m c 0 t) (iblk m c 1 t) (iblk m c 2 t) (iblk m c 3 t) (iblk m c 4 t) M)
      (newD (iblk m c 0 t) (iblk m c 1 t) (iblk m c 2 t) (iblk m c 3 t) (iblk m c 4 t) M D)
      (newA (iblk m c 0 t) (iblk m c 1 t) (iblk m c 2 t) (iblk m c 3 t) (iblk m c 4 t) M A) := by
  intro g
  obtain ⟨hM, hD, hA⟩ := h g
  have hM' : newM (iblk m c 0 t) (iblk m c 1 t) (iblk m c 2 t) (iblk m c 3 t) (iblk m c 4 t) M (ix2 0 g)
      = Online.mx (score R) (inSeg (m ((c : Thread nD τ).loc main_arg1)) g) (1000 * t.val + 1000) := by
    rw [newM_at, Online.mx_add, hM]
    congr 1
    refine Finset.sup_congr rfl fun r _ => ?_
    rw [blk_score m c R, blk_ids]
    rfl
  refine ⟨hM', ?_, fun j => ?_⟩
  · rw [newD_at, hM', hM, hD, ← Online.sm_step]
    congr 1
    refine Finset.sum_congr rfl fun r _ => ?_
    rw [blk_score m c R, blk_ids, EReal.coe_one, one_mul]
    rfl
  · rw [newA_at, hM', hM, hA, ← Online.sm_step]
    congr 1
    refine Finset.sum_congr rfl fun r _ => ?_
    have ht := (idx t).2.2.2.2.2
    have h : 1000 * t.val + r.val < 100000 := by omega
    rw [blk_score m c R, blk_ids, blk_x m c t r j h, R.hx]
    rfl

/-- What the scratch holds after grid point `n < 99`. -/
theorem holds_at : ∀ (n : ℕ) (hn : n < cfg0.N), n < 99 →
    Holds m c R (1000 * n + 1000) (outsAt0 m c n hn).2.1 (outsAt0 m c n hn).2.2.1 (outsAt0 m c n hn).2.2.2
  | 0, hn, _ => by
    have e := stA m c 0 hn junk0 (by decide) (by decide)
    rw [outsAt0_zero, e.1, e.2.1, e.2.2]
    exact holds_step m c R ⟨0, hn⟩ _ _ _ (holds_zero m c R)
  | n + 1, hn, h => by
    have e := stB m c (n + 1) hn (outsAt0 m c n (Nat.lt_of_succ_lt hn)) (by omega) (by omega)
    rw [outsAt0_succ, e.1, e.2.1, e.2.2]
    exact holds_step m c R ⟨n + 1, hn⟩ _ _ _ (holds_at n _ (by omega))

/-- The kernel's result array holds each segment's weighted average. -/
theorem G5_at (g : Fin 512) (j : Fin 128) :
    G5 m c (ix2 g j) = ((out R (m ((c : Thread nD τ).loc main_arg1)) g j : ℝ) : EReal) := by
  have h98 : 98 < cfg0.N := lt_of_lt_of_eq (by decide) N_0.symm
  have h99 : 99 < cfg0.N := lt_of_lt_of_eq (by decide) N_0.symm
  have hs := holds_step m c R ⟨99, h99⟩ _ _ _ (holds_at m c R 98 h98 (by decide)) g
  rw [G5_last, ← outsAt0_sweep m c 99 h99, outsAt0_succ m c 98 h99, stC m c 99 h99 _ (by decide) (by decide), out_at, hs.2.1, hs.2.2 j]
  exact Online.avg_eq _ _ _ _

end Cert.KernelIdeal.Step

end
-- ==== Proof.RefTerm.lean ====
module

public import proofs.«01_k».proof.Proof.Gen.ReferenceIdeal.Run
public import proofs.«01_k».proof.Proof.Spec
/-! The reference's result, its composed term cut into named steps. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- Every node's score, the last bias included. -/
def refScore (X : FVec Ideal S100000x128 .f32) (W : FVec Ideal S128x128 .f32) (B1 : FVec Ideal S128 .f32)
    (W2 : FVec Ideal S128x1 .f32) (B2 : FVec Ideal S1 .f32) : FVec Ideal S100000 .f32 :=
  shapeCast S100000 (addf (Host.dotGeneral dot_S100000x128_S128x1_S100000x1_1_0_0_1_n_n none
    (maximumf (addf (Host.dotGeneral dot_S100000x128_S128x128_S100000x128_1_0_0_1_n_n none X W)
        (broadcastInDim S100000x128 ![0, 1] bcast_S1x128_S100000x128_0_1 (broadcastInDim S1x128 ![1] bcast_S128_S1x128_1 B1)))
      (broadcastInDim S100000x128 ![] bcast_S_S100000x128 (constant S_ .f32 0x00000000#32))) W2)
    (broadcastInDim S100000x1 ![0, 1] bcast_S1x1_S100000x1_0_1 (broadcastInDim S1x1 ![1] bcast_S1_S1x1_1 B2))) shapeCasts_S100000x1_S100000

/-- The greatest score of each segment. -/
def refMax (s : FVec Ideal S100000 .f32) (b : IVec S100000 32) : FVec Ideal S512 .f32 :=
  Host.reduce FloatOps.maximumf (select (cmpi .eq
      (broadcastInDim S100000x512 ![0, 1] bcast_S100000x1_S100000x512_0_1 (broadcastInDim S100000x1 ![0] bcast_S100000_S100000x1_0 b))
      (broadcastInDim S100000x512 ![0, 1] bcast_S1x512_S100000x512_0_1 (broadcastInDim S1x512 ![1] bcast_S512_S1x512_1 (iotaInDim S512 32 0))))
    (broadcastInDim S100000x512 ![0, 1] bcast_S100000x1_S100000x512_0_1 (broadcastInDim S100000x1 ![0] bcast_S100000_S100000x1_0 s))
    (broadcastInDim S100000x512 ![] bcast_S_S100000x512 (id (constant S_ .f32 0xFF800000#32))))
    (constant S_ .f32 0xFF800000#32) reducesTo_S100000x512_S512_d0 h_S_

/-- The ids as a column. -/
def refCol (b : IVec S100000 32) : IVec S100000x1 32 := broadcastInDim S100000x1 ![0] bcast_S100000_S100000x1_0 b

/-- The ids a gather reads at: a negative one counted from the end. -/
def refWrap (b : IVec S100000 32) : IVec S100000x1 32 :=
  refCol (select (cmpi .slt b (broadcastInDim S100000 ![] bcast_S_S100000 (constantI S_ 32 0#32)))
    (addi b (broadcastInDim S100000 ![] bcast_S_S100000 (constantI S_ 32 512#32))) b)

/-- A segment's entry of `v`, for every node. -/
def refTake (v : FVec Ideal S512 .f32) (b : IVec S100000 32) : FVec Ideal S100000 .f32 :=
  Host.gather gather_S512_S100000x1_S100000_n_0_n_n_0_1_1 v (refWrap b)

/-- The exponential of every node's score less its segment's maximum. -/
def refEx (s : FVec Ideal S100000 .f32) (b : IVec S100000 32) : FVec Ideal S100000 .f32 :=
  Host.exp (subf s (refTake (refMax s b) b))

/-- The sum of the exponentials of each segment. -/
def refDen (s : FVec Ideal S100000 .f32) (b : IVec S100000 32) : FVec Ideal S512 .f32 :=
  Host.scatterAdd scatter_S512_S100000x1_S100000_n_0_0_1 (broadcastInDim S512 ![] bcast_S_S512 (constant S_ .f32 0x00000000#32))
    (refCol b) (refEx s b)

/-- Every node's row times its exponential over its segment's sum. -/
def refRow (X : FVec Ideal S100000x128 .f32) (s : FVec Ideal S100000 .f32) (b : IVec S100000 32) : FVec Ideal S100000x128 .f32 :=
  mulf X (broadcastInDim S100000x128 ![0, 1] bcast_S100000x1_S100000x128_0_1 (broadcastInDim S100000x1 ![0] bcast_S100000_S100000x1_0
    (Host.divf (refEx s b) (refTake (refDen s b) b))))

/-- The rows of each segment summed. -/
def refOut (X : FVec Ideal S100000x128 .f32) (s : FVec Ideal S100000 .f32) (b : IVec S100000 32) : FVec Ideal S512x128 .f32 :=
  Host.scatterAdd scatter_S512x128_S100000x1_S100000x128_1_0_0_1 (broadcastInDim S512x128 ![] bcast_S_S512x128 (constant S_ .f32 0x00000000#32))
    (refCol b) (refRow X s b)

/-- The run's result is these steps. -/
theorem res_eq (m : (ℓ : Loc nD τ sig) → Buf (Elt Ideal) ℓ) (c : Dev nD) :
    res_main_v44 m c = refOut (m ((c.tc : Thread nD τ).loc main_arg0))
      (refScore (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)))
      (m ((c.tc : Thread nD τ).loc main_arg1)) := rfl

end Cert.ReferenceIdeal.Value

end
-- ==== Proof.RefValue.lean ====
module

public import proofs.«01_k».proof.Proof.RefTerm
public import Idealize.ShloMosaic.Lib.Routing.OpsSearch
public import Idealize.ShloMosaic.Lib.Routing.OpsPair
/-! The reference's result read at an index. -/

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Spec

/-- The constant the reference writes for minus infinity is minus infinity. -/
theorem ofBits_neg_inf : Ideal.ofBits .f32 0xFF800000#32 = (⊥ : EReal) := by
  unfold Ideal.ofBits Ideal.ieee
  simp

variable (X : FVec Ideal S100000x128 .f32) (W : FVec Ideal S128x128 .f32) (B1 : FVec Ideal S128 .f32)
    (W2 : FVec Ideal S128x1 .f32) (B2 : FVec Ideal S1 .f32) (s : FVec Ideal S100000 .f32) (b : IVec S100000 32)

/-- The score of node `n`. -/
theorem refScore_at (n : Fin 100000) : refScore X W B1 W2 B2 (ix1 n)
    = (∑ k : Fin 128, max ((∑ l : Fin 128, X (ix2 n l) * W (ix2 l k)) + B1 (ix1 k)) 0 * W2 (ix2 k 0)) + B2 (ix1 0) := by
  pointwise [refScore]

/-- The maximum of segment `g`. -/
theorem refMax_at (g : Fin 512) : refMax s b (ix1 g)
    = Finset.univ.sup fun n : Fin 100000 => if b (ix1 n) = BitVec.ofNat 32 g then s (ix1 n) else ⊥ := by
  pointwise [refMax]
  simp only [ofBits_neg_inf, WordCmp.cmpi_eq_eq, Scalar.select_ofBool, decide_eq_true_eq]
  rfl

/-- The ids as a column hold the ids. -/
theorem refCol_at (n : Fin 100000) : refCol b (ix2 n 0) = b (ix1 n) := by
  pointwise [refCol]

/-- A word below 512, read signed, is its number. -/
theorem toInt_small (g : Fin 512) : (BitVec.ofNat 32 g).toInt = (g.val : Int) := by
  have := g.isLt
  rw [BitVec.toInt_eq_toNat_of_lt (by rw [BitVec.toNat_ofNat]; omega), BitVec.toNat_ofNat]
  omega

/-- A word read signed is a number below 512 exactly when it is the number's word. -/
theorem toInt_eq_iff (v : BitVec 32) (g : Fin 512) : v.toInt = (g.val : Int) ↔ v = BitVec.ofNat 32 g := by
  rw [← toInt_small, BitVec.toInt_inj]

/-- The wrap leaves an id below 512 as it is. -/
theorem refWrap_at (n : Fin 100000) (g : Fin 512) (h : b (ix1 n) = BitVec.ofNat 32 g) : refWrap b (ix2 n 0) = BitVec.ofNat 32 g := by
  have := g.isLt
  pointwise [refWrap, refCol]
  rw [h]
  exact Routing.wrap_of_lt _ _ (by rw [BitVec.toNat_ofNat]; omega)

/-- What a node of segment `g` takes is the segment's entry. -/
theorem refTake_at (v : FVec Ideal S512 .f32) (n : Fin 100000) (g : Fin 512) (h : b (ix1 n) = BitVec.ofNat 32 g) :
    refTake v b (ix1 n) = v (ix1 g) :=
  Routing.take_ap gather_S512_S100000x1_S100000_n_0_n_n_0_1_1 rfl rfl rfl rfl v (refWrap b) n g.isLt (by have := g.isLt; omega)
    (refWrap_at b n g h)

/-- The exponential of a node of segment `g`: of its score less the maximum of the segment. -/
theorem refEx_at (n : Fin 100000) (g : Fin 512) (h : b (ix1 n) = BitVec.ofNat 32 g) :
    refEx s b (ix1 n) = Ideal.exp (s (ix1 n) - refMax s b (ix1 g)) := by
  rw [← refTake_at b (refMax s b) n g h]
  pointwise [refEx]

/-- An update of the sums starts at its node's index word, read signed. -/
theorem start1 (n : Fin 100000) (idx : IVec S100000x1 32) :
    scatter_S512_S100000x1_S100000_n_0_0_1.start (ix1 n) idx 0 = (idx (ix2 n 0)).toInt := by
  refine congrArg (fun q : S100000x1.Idx => (idx q).toInt) (funext fun q => Fin.ext ?_)
  match q with
  | ⟨0, _⟩ => rfl
  | ⟨1, _⟩ => rfl

/-- A row's element starts at its node's index word, read signed, on the segments' axis. -/
theorem start2 (n : Fin 100000) (k : Fin 128) (idx : IVec S100000x1 32) :
    scatter_S512x128_S100000x1_S100000x128_1_0_0_1.start (ix2 n k) idx 0 = (idx (ix2 n 0)).toInt := by
  refine congrArg (fun q : S100000x1.Idx => (idx q).toInt) (funext fun q => Fin.ext ?_)
  match q with
  | ⟨0, _⟩ => rfl
  | ⟨1, _⟩ => rfl

/-- A node's exponential is added to segment `g` exactly when the node's id is `g`'s word. -/
theorem lands1 (n : Fin 100000) (g : Fin 512) :
    scatter_S512_S100000x1_S100000_n_0_0_1.resultIdx? (ix1 n) (refCol b) = some (ix1 g) ↔ b (ix1 n) = BitVec.ofNat 32 g := by
  refine (Routing.resultIdx?_ix1 scatter_S512_S100000x1_S100000_n_0_0_1 (ix1 n) (refCol b) g).trans ?_
  rw [start1, refCol_at, show scatter_S512_S100000x1_S100000_n_0_0_1.window (ix1 n) 0 = 0 from rfl, Nat.cast_zero, add_zero, toInt_eq_iff]

/-- A row's element is added to segment `g`, column `j`, exactly when the node's id is `g`'s word and the column is `j`. -/
theorem lands2 (n : Fin 100000) (k : Fin 128) (g : Fin 512) (j : Fin 128) :
    scatter_S512x128_S100000x1_S100000x128_1_0_0_1.resultIdx? (ix2 n k) (refCol b) = some (ix2 g j)
      ↔ b (ix1 n) = BitVec.ofNat 32 g ∧ k = j := by
  refine (Routing.resultIdx?_ix2 scatter_S512x128_S100000x1_S100000x128_1_0_0_1 (ix2 n k) (refCol b) g j).trans ?_
  rw [start2, refCol_at, show scatter_S512x128_S100000x1_S100000x128_1_0_0_1.window (ix2 n k) 0 = 0 from rfl, Nat.cast_zero, add_zero, toInt_eq_iff,
    show scatter_S512x128_S100000x1_S100000x128_1_0_0_1.start (ix2 n k) (refCol b) 1 = 0 from rfl,
    show scatter_S512x128_S100000x1_S100000x128_1_0_0_1.window (ix2 n k) 1 = k.val from rfl, zero_add, Nat.cast_inj, Fin.ext_iff]

/-- The sum of segment `g`'s exponentials. -/
theorem refDen_at (g : Fin 512) : refDen s b (ix1 g)
    = ∑ n : Fin 100000, if b (ix1 n) = BitVec.ofNat 32 g then Ideal.exp (s (ix1 n) - refMax s b (ix1 g)) else 0 := by
  have h : refDen s b (ix1 g) = 0 + ∑ i ∈ Finset.univ.filter
      (fun i => scatter_S512_S100000x1_S100000_n_0_0_1.resultIdx? i (refCol b) = some (ix1 g)), refEx s b i := by
    rw [← Ideal.ofBits_zero_f32]; rfl
  rw [h, zero_add, Finset.sum_filter, sum_idx1]
  refine Finset.sum_congr rfl fun n _ => ?_
  by_cases hn : b (ix1 n) = BitVec.ofNat 32 g
  · rw [if_pos ((lands1 b n g).2 hn), if_pos hn, refEx_at s b n g hn]
  · rw [if_neg fun e => hn ((lands1 b n g).1 e), if_neg hn]

/-- A row's element: the node's own, times its exponential over its segment's sum. -/
theorem refRow_at (n : Fin 100000) (j : Fin 128) (g : Fin 512) (hn : b (ix1 n) = BitVec.ofNat 32 g) :
    refRow X s b (ix2 n j) = X (ix2 n j) * Ideal.div (Ideal.exp (s (ix1 n) - refMax s b (ix1 g))) (refDen s b (ix1 g)) := by
  rw [← refEx_at s b n g hn, ← refTake_at b (refDen s b) n g hn]
  pointwise [refRow]

/-- The result at segment `g`, column `j`, from the scores. -/
theorem refOut_at (g : Fin 512) (j : Fin 128) : refOut X s b (ix2 g j)
    = ∑ n : Fin 100000, if b (ix1 n) = BitVec.ofNat 32 g
        then X (ix2 n j) * Ideal.div (Ideal.exp (s (ix1 n) - refMax s b (ix1 g))) (refDen s b (ix1 g)) else 0 := by
  have h : refOut X s b (ix2 g j) = 0 + ∑ i ∈ Finset.univ.filter
      (fun i => scatter_S512x128_S100000x1_S100000x128_1_0_0_1.resultIdx? i (refCol b) = some (ix2 g j)), refRow X s b i := by
    rw [← Ideal.ofBits_zero_f32]; rfl
  rw [h, zero_add, Finset.sum_filter, sum_idx2]
  refine Finset.sum_congr rfl fun n _ => ?_
  by_cases hn : b (ix1 n) = BitVec.ofNat 32 g
  · rw [if_pos hn, Finset.sum_eq_single j, if_pos ((lands2 b n j g j).2 ⟨hn, rfl⟩), refRow_at X s b n j g hn]
    · exact fun k _ hk => if_neg fun e => hk ((lands2 b n k g j).1 e).2
    · exact fun e => absurd (Finset.mem_univ j) e
  · rw [if_neg hn]
    exact Finset.sum_eq_zero fun k _ => if_neg fun e => hn ((lands2 b n k g j).1 e).1

/-- The reference's result is each segment's weighted average. -/
theorem ref_at {A0 : FVec Ideal S100000x128 .f32} {A2 : FVec Ideal S128x128 .f32} {A3 : FVec Ideal S128 .f32} {A4 : FVec Ideal S128x1 .f32}
    {A5 : FVec Ideal S1 .f32} (R : Reals A0 A2 A3 A4 A5) (g : Fin 512) (j : Fin 128) :
    refOut A0 (refScore A0 A2 A3 A4 A5) b (ix2 g j) = ((out R b g j : ℝ) : EReal) := by
  have hs : ∀ n : Fin 100000, refScore A0 A2 A3 A4 A5 (ix1 n) = ((score R n + R.b2 : ℝ) : EReal) := fun n => by
    rw [refScore_at, R.hb2, EReal.coe_add, ← score_coe R]
    congr 1
    refine Finset.sum_congr rfl fun k _ => ?_
    rw [R.hb1, R.hw2]
    congr 3
    refine Finset.sum_congr rfl fun l _ => ?_
    rw [R.hW]
    exact congrArg (· * _) (R.hx n n.isLt l)
  have hb : ∀ n : Fin 100000, b (ix1 n) = ids b n := fun n => ids_eq b n n.isLt
  have hm : refMax (refScore A0 A2 A3 A4 A5) b (ix1 g) = Online.mx (fun n => score R n + R.b2) (inSeg b g) 100000 := by
    rw [refMax_at, Online.mx_fin]
    refine Finset.sup_congr rfl fun n _ => ?_
    rw [hs, hb]; rfl
  have hd : refDen (refScore A0 A2 A3 A4 A5) b (ix1 g)
      = ((Online.sm (fun n => score R n + R.b2) (inSeg b g) (fun _ => 1) 100000 : ℝ) : EReal) := by
    rw [refDen_at, hm, ← Online.den_fin]
    refine Finset.sum_congr rfl fun n _ => ?_
    rw [hs, hb]; rfl
  rw [refOut_at, hm, hd, out, ← Online.avg_shift _ _ _ R.b2, ← Online.avg_fin]
  refine Finset.sum_congr rfl fun n _ => ?_
  rw [hs, hb, show A0 (ix2 n j) = (R.x n j : EReal) from R.hx n n.isLt j]
  rfl

end Cert.ReferenceIdeal.Value

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_all_finite
public import proofs.«01_k».proof.Proof.Gen.ReferenceIdeal.Run
public import proofs.«01_k».proof.Proof.Finite
public import proofs.«01_k».proof.Proof.State
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The reference's run ends with its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, read under the precondition. -/
theorem quiescent_ReferenceIdeal_pre_all_finite : quiescent_ReferenceIdeal_pre_all_finite := fun m ρ _ =>
  quiescent_ReferenceIdeal m ρ trivial

/-- For finite float inputs the reference's term and the kernel's result array are equal on every device. -/
theorem values_eq (m : (ℓ : Loc Cert.KernelIdeal.nD Cert.KernelIdeal.τ Cert.KernelIdeal.sig) → Buf (Elt Ideal) ℓ)
    (hpre : Pre_KernelIdeal_all_finite m) (c : Dev Cert.KernelIdeal.nD) :
    Cert.ReferenceIdeal.Value.refOut (m ((c.tc : Thread Cert.KernelIdeal.nD Cert.KernelIdeal.τ).loc Cert.KernelIdeal.main_arg0))
      (Cert.ReferenceIdeal.Value.refScore (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg1))
    = Cert.KernelIdeal.Value.G5 m c := by
  funext i
  obtain ⟨g, j, rfl⟩ : ∃ (g : Fin 512) (j : Fin 128), i = ix2 g j := ⟨i 0, i 1, eq_ix2 i⟩
  exact (Cert.ReferenceIdeal.Value.ref_at _ (Cert.Pre_all_finite.reals (hpre c)) g j).trans
    (Cert.KernelIdeal.Step.G5_at m c (Cert.Pre_all_finite.reals (hpre c)) g j).symm

/-- From memories that agree on the arguments, and finite float inputs, kernel and reference end with the same result. -/
theorem algebraic_KernelIdeal_ReferenceIdeal : algebraic_KernelIdeal_ReferenceIdeal_pre_all_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Value.res_eq]
  simp only [hagree c]
  exact values_eq m hpre c

/-- All the claims. -/
theorem claim : Cert.Claim := ⟨Cert.Kernel.Gen.facts, Cert.KernelIdeal.Gen.facts, Cert.ReferenceIdeal.Gen.facts, Cert.Pre_all_finite.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_all_finite, (trivial : preserves_Kernel_KernelIdeal), algebraic_KernelIdeal_ReferenceIdeal⟩

end Cert.Proof

end
